-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2 = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S8x64x224x224 : Shape := ⟨4, ![8, 64, 224, 224]⟩
abbrev S32x4x2 : Shape := ⟨3, ![32, 4, 2]⟩
abbrev S32x4 : Shape := ⟨2, ![32, 4]⟩
abbrev S_ : Shape := ⟨0, ![]⟩

class Facts : Prop where
  bcast_S_S32x4x2 : S_.BroadcastsInDim S32x4x2 (![] : Fin 0 → Fin S32x4x2.rank)
  bcast_S_S32x4 : S_.BroadcastsInDim S32x4 (![] : Fin 0 → Fin S32x4.rank)

variable [Facts]

def fn {F : FTy → Type} [FloatOps F] (main_arg0 : FVec F S8x64x224x224 .f32) (main_arg1 : IVec S32x4x2 32) (main_arg2 : IVec S32x4 32) : IVec S_ 1 × IVec S32x4x2 1 × IVec S32x4 1 :=
  let main_c : IVec S_ 32 := constantI S_ 32 0#32
  let main_v0 : IVec S32x4x2 32 := broadcastInDim S32x4x2 ![] bcast_S_S32x4x2 main_c
  let main_v1 : IVec S32x4x2 1 := cmpi .sge main_arg1 main_v0
  let main_c_0 : IVec S_ 32 := constantI S_ 32 5#32
  let main_v2 : IVec S32x4x2 32 := broadcastInDim S32x4x2 ![] bcast_S_S32x4x2 main_c_0
  let main_v3 : IVec S32x4x2 1 := cmpi .slt main_arg1 main_v2
  let main_v4 : IVec S32x4x2 1 := andi main_v1 main_v3
  let main_c_1 : IVec S_ 32 := constantI S_ 32 0#32
  let main_v5 : IVec S32x4 32 := broadcastInDim S32x4 ![] bcast_S_S32x4 main_c_1
  let main_v6 : IVec S32x4 1 := cmpi .sge main_arg2 main_v5
  let main_c_2 : IVec S_ 32 := constantI S_ 32 64#32
  let main_v7 : IVec S32x4 32 := broadcastInDim S32x4 ![] bcast_S_S32x4 main_c_2
  let main_v8 : IVec S32x4 1 := cmpi .slt main_arg2 main_v7
  let main_v9 : IVec S32x4 1 := andi main_v6 main_v8
  let main_c_3 : IVec S_ 1 := constantI S_ 1 1#1
  (main_c_3, main_v4, main_v9)
-- ==== Kernel.lean ====
abbrev S8x64x224x224 : Shape := ⟨4, ![8, 64, 224, 224]⟩
abbrev S32x4x2 : Shape := ⟨3, ![32, 4, 2]⟩
abbrev S32x4 : Shape := ⟨2, ![32, 4]⟩
abbrev S128 : Shape := ⟨1, ![128]⟩
abbrev S32x4x1 : Shape := ⟨3, ![32, 4, 1]⟩
abbrev S8x32x224x224 : Shape := ⟨4, ![8, 32, 224, 224]⟩
abbrev S8x1x224x224 : Shape := ⟨4, ![8, 1, 224, 224]⟩
abbrev S1 : Shape := ⟨1, ![1]⟩
abbrev S8x224x224 : Shape := ⟨3, ![8, 224, 224]⟩
abbrev S8x8x224 : Shape := ⟨3, ![8, 8, 224]⟩
abbrev S8x232x224 : Shape := ⟨3, ![8, 232, 224]⟩
abbrev S8x232x32 : Shape := ⟨3, ![8, 232, 32]⟩
abbrev S8x232x256 : Shape := ⟨3, ![8, 232, 256]⟩

abbrev nBuf : Space → Nat
  | .hbm => 8
  | .vmem => 10
  | .smem => 3
  | _ => 0

abbrev bufTy : (tb : Table) → Fin (tcTables nBuf tb) → BufTy
  | .hbm, ⟨0, _⟩ => ⟨S8x64x224x224, .f32⟩
  | .hbm, ⟨1, _⟩ => ⟨S32x4x2, .i32⟩
  | .hbm, ⟨2, _⟩ => ⟨S32x4, .i32⟩
  | .hbm, ⟨3, _⟩ => ⟨S32x4x1, .i32⟩
  | .hbm, ⟨4, _⟩ => ⟨S32x4, .i32⟩
  | .hbm, ⟨5, _⟩ => ⟨S32x4x1, .i32⟩
  | .hbm, ⟨6, _⟩ => ⟨S32x4, .i32⟩
  | .hbm, ⟨7, _⟩ => ⟨S8x32x224x224, .f32⟩
  | .local _ .vmem, ⟨0, _⟩ => ⟨S8x1x224x224, .f32⟩
  | .local _ .vmem, ⟨1, _⟩ => ⟨S8x1x224x224, .f32⟩
  | .local _ .vmem, ⟨2, _⟩ => ⟨S8x1x224x224, .f32⟩
  | .local _ .vmem, ⟨3, _⟩ => ⟨S8x1x224x224, .f32⟩
  | .local _ .vmem, ⟨4, _⟩ => ⟨S8x1x224x224, .f32⟩
  | .local _ .vmem, ⟨5, _⟩ => ⟨S8x1x224x224, .f32⟩
  | .local _ .vmem, ⟨6, _⟩ => ⟨S8x1x224x224, .f32⟩
  | .local _ .vmem, ⟨7, _⟩ => ⟨S8x1x224x224, .f32⟩
  | .local _ .vmem, ⟨8, _⟩ => ⟨S8x1x224x224, .f32⟩
  | .local _ .vmem, ⟨9, _⟩ => ⟨S8x1x224x224, .f32⟩
  | .local _ .smem, ⟨0, _⟩ => ⟨S128, .i32⟩
  | .local _ .smem, ⟨1, _⟩ => ⟨S128, .i32⟩
  | .local _ .smem, ⟨2, _⟩ => ⟨S128, .i32⟩
  | _, _ => ⟨S8x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v4 : Ref sig .tc := ⟨.hbm, 5, rfl⟩
abbrev main_v5 : Ref sig .tc := ⟨.hbm, 6, rfl⟩
abbrev main_v7 : Ref sig .tc := ⟨.hbm, 7, rfl⟩
abbrev main_v0 : Ref sig .tc := ⟨.smem, 0, rfl⟩
abbrev main_v3 : Ref sig .tc := ⟨.smem, 1, rfl⟩
abbrev main_v6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨3, ![main_v0.idx, main_v3.idx, main_v6.idx], fun | 0 => main_v0.names | 1 => main_v3.names | 2 => main_v6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![v2.toNat]
def cc0_transform_0 (k0_off1_inb : ∀ i : grid0.Coords, ∀ (r : Fin 4), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S128) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_1 (k0_off1_inb : ∀ i : grid0.Coords, ∀ (r : Fin 4), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S128) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_2 (k0_off1_inb : ∀ i : grid0.Coords, ∀ (r : Fin 4), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S128) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_3 (k0_off1_inb : ∀ i : grid0.Coords, ∀ (r : Fin 4), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S128) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x64x224x224 : Shape := ⟨4, ![8, 64, 224, 224]⟩
abbrev S32x4x2 : Shape := ⟨3, ![32, 4, 2]⟩
abbrev S32x4 : Shape := ⟨2, ![32, 4]⟩
abbrev S_ : Shape := ⟨0, ![]⟩
abbrev S8x64x228x228 : Shape := ⟨4, ![8, 64, 228, 228]⟩
abbrev S128 : Shape := ⟨1, ![128]⟩
abbrev S128x1x1 : Shape := ⟨3, ![128, 1, 1]⟩
abbrev S32x4x1 : Shape := ⟨3, ![32, 4, 1]⟩
abbrev S224 : Shape := ⟨1, ![224]⟩
abbrev S224x1 : Shape := ⟨2, ![224, 1]⟩
abbrev S1x224x1 : Shape := ⟨3, ![1, 224, 1]⟩
abbrev S128x224x1 : Shape := ⟨3, ![128, 224, 1]⟩
abbrev S1x1x224 : Shape := ⟨3, ![1, 1, 224]⟩
abbrev S128x1x224 : Shape := ⟨3, ![128, 1, 224]⟩
abbrev S128x224x224 : Shape := ⟨3, ![128, 224, 224]⟩
abbrev S128x224x224x1 : Shape := ⟨4, ![128, 224, 224, 1]⟩
abbrev S128x224x224x3 : Shape := ⟨4, ![128, 224, 224, 3]⟩
abbrev S8x128x224x224 : Shape := ⟨4, ![8, 128, 224, 224]⟩
abbrev S128x1 : Shape := ⟨2, ![128, 1]⟩
abbrev S128x3 : Shape := ⟨2, ![128, 3]⟩
abbrev S8x32x4x224x224 : Shape := ⟨5, ![8, 32, 4, 224, 224]⟩
abbrev S4 : Shape := ⟨1, ![4]⟩
abbrev S1x1x4x1x1 : Shape := ⟨5, ![1, 1, 4, 1, 1]⟩
abbrev S8x32x224x224 : Shape := ⟨4, ![8, 32, 224, 224]⟩

abbrev nBuf : Space → Nat
  | .hbm => 95
  | .vmem => 0
  | .smem => 0
  | _ => 0

abbrev bufTy : (tb : Table) → Fin (tcTables nBuf tb) → BufTy
  | .hbm, ⟨0, _⟩ => ⟨S8x64x224x224, .f32⟩
  | .hbm, ⟨1, _⟩ => ⟨S32x4x2, .i32⟩
  | .hbm, ⟨2, _⟩ => ⟨S32x4, .i32⟩
  | .hbm, ⟨3, _⟩ => ⟨S_, .i32⟩
  | .hbm, ⟨4, _⟩ => ⟨S_, .f32⟩
  | .hbm, ⟨5, _⟩ => ⟨S8x64x228x228, .f32⟩
  | .hbm, ⟨6, _⟩ => ⟨S128, .i32⟩
  | .hbm, ⟨7, _⟩ => ⟨S128x1x1, .i32⟩
  | .hbm, ⟨8, _⟩ => ⟨S32x4x1, .i32⟩
  | .hbm, ⟨9, _⟩ => ⟨S32x4, .i32⟩
  | .hbm, ⟨10, _⟩ => ⟨S128, .i32⟩
  | .hbm, ⟨11, _⟩ => ⟨S128x1x1, .i32⟩
  | .hbm, ⟨12, _⟩ => ⟨S32x4x1, .i32⟩
  | .hbm, ⟨13, _⟩ => ⟨S32x4, .i32⟩
  | .hbm, ⟨14, _⟩ => ⟨S128, .i32⟩
  | .hbm, ⟨15, _⟩ => ⟨S128x1x1, .i32⟩
  | .hbm, ⟨16, _⟩ => ⟨S224, .i32⟩
  | .hbm, ⟨17, _⟩ => ⟨S224x1, .i32⟩
  | .hbm, ⟨18, _⟩ => ⟨S224, .i32⟩
  | .hbm, ⟨19, _⟩ => ⟨S1x224x1, .i32⟩
  | .hbm, ⟨20, _⟩ => ⟨S128x224x1, .i32⟩
  | .hbm, ⟨21, _⟩ => ⟨S128x224x1, .i32⟩
  | .hbm, ⟨22, _⟩ => ⟨S128x224x1, .i32⟩
  | .hbm, ⟨23, _⟩ => ⟨S1x1x224, .i32⟩
  | .hbm, ⟨24, _⟩ => ⟨S128x1x224, .i32⟩
  | .hbm, ⟨25, _⟩ => ⟨S128x1x224, .i32⟩
  | .hbm, ⟨26, _⟩ => ⟨S128x1x224, .i32⟩
  | .hbm, ⟨27, _⟩ => ⟨S_, .i32⟩
  | .hbm, ⟨28, _⟩ => ⟨S128x1x1, .i32⟩
  | .hbm, ⟨29, _⟩ => ⟨S128x1x1, .i1⟩
  | .hbm, ⟨30, _⟩ => ⟨S_, .i32⟩
  | .hbm, ⟨31, _⟩ => ⟨S128x1x1, .i32⟩
  | .hbm, ⟨32, _⟩ => ⟨S128x1x1, .i32⟩
  | .hbm, ⟨33, _⟩ => ⟨S128x1x1, .i32⟩
  | .hbm, ⟨34, _⟩ => ⟨S_, .i32⟩
  | .hbm, ⟨35, _⟩ => ⟨S128x224x1, .i32⟩
  | .hbm, ⟨36, _⟩ => ⟨S128x224x1, .i1⟩
  | .hbm, ⟨37, _⟩ => ⟨S_, .i32⟩
  | .hbm, ⟨38, _⟩ => ⟨S128x224x1, .i32⟩
  | .hbm, ⟨39, _⟩ => ⟨S128x224x1, .i32⟩
  | .hbm, ⟨40, _⟩ => ⟨S128x224x1, .i32⟩
  | .hbm, ⟨41, _⟩ => ⟨S_, .i32⟩
  | .hbm, ⟨42, _⟩ => ⟨S128x1x224, .i32⟩
  | .hbm, ⟨43, _⟩ => ⟨S128x1x224, .i1⟩
  | .hbm, ⟨44, _⟩ => ⟨S_, .i32⟩
  | .hbm, ⟨45, _⟩ => ⟨S128x1x224, .i32⟩
  | .hbm, ⟨46, _⟩ => ⟨S128x1x224, .i32⟩
  | .hbm, ⟨47, _⟩ => ⟨S128x1x224, .i32⟩
  | .hbm, ⟨48, _⟩ => ⟨S128x224x224, .i32⟩
  | .hbm, ⟨49, _⟩ => ⟨S128x224x224, .i32⟩
  | .hbm, ⟨50, _⟩ => ⟨S128x224x224, .i32⟩
  | .hbm, ⟨51, _⟩ => ⟨S128x224x224x1, .i32⟩
  | .hbm, ⟨52, _⟩ => ⟨S128x224x224x1, .i32⟩
  | .hbm, ⟨53, _⟩ => ⟨S128x224x224x1, .i32⟩
  | .hbm, ⟨54, _⟩ => ⟨S128x224x224x3, .i32⟩
  | .hbm, ⟨55, _⟩ => ⟨S8x128x224x224, .f32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S128x1, .i32⟩
  | .hbm, ⟨65, _⟩ => ⟨S_, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x3, .i32⟩
  | .hbm, ⟨70, _⟩ => ⟨S8x128x224x224, .f32⟩
  | .hbm, ⟨71, _⟩ => ⟨S8x128x224x224, .f32⟩
  | .hbm, ⟨72, _⟩ => ⟨S8x32x4x224x224, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x32x4x224x224, .f32⟩
  | .hbm, ⟨77, _⟩ => ⟨S8x32x4x224x224, .f32⟩
  | .hbm, ⟨78, _⟩ => ⟨S8x32x4x224x224, .f32⟩
  | .hbm, ⟨79, _⟩ => ⟨S8x32x4x224x224, .f32⟩
  | .hbm, ⟨80, _⟩ => ⟨S_, .f32⟩
  | .hbm, ⟨81, _⟩ => ⟨S8x32x4x224x224, .f32⟩
  | .hbm, ⟨82, _⟩ => ⟨S8x32x4x224x224, .f32⟩
  | .hbm, ⟨83, _⟩ => ⟨S_, .f32⟩
  | .hbm, ⟨84, _⟩ => ⟨S8x32x4x224x224, .f32⟩
  | .hbm, ⟨85, _⟩ => ⟨S8x32x4x224x224, .f32⟩
  | .hbm, ⟨86, _⟩ => ⟨S4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S1x1x4x1x1, .f32⟩
  | .hbm, ⟨91, _⟩ => ⟨S8x32x4x224x224, .f32⟩
  | .hbm, ⟨92, _⟩ => ⟨S8x32x4x224x224, .f32⟩
  | .hbm, ⟨93, _⟩ => ⟨S_, .f32⟩
  | .hbm, ⟨94, _⟩ => ⟨S8x32x224x224, .f32⟩
  | _, _ => ⟨S8x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_v47 : Ref sig .tc := ⟨.hbm, 59, rfl⟩
abbrev main_c_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_14 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Proof.Body.lean ====
/- The kernel's body on whole staging buffers: it ends with its inputs and tables as they were and its output buffer
   holding the sum of the four sampled points (`stored`), for any float operations. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.Pointwise
public import Idealize.ShloMosaic.Lib.VecWindow

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Lbp
open Cert.KernelIdeal Cert.KernelIdeal.Gen

variable {F : FTy → Type} [FloatOps F]

local notation "𝕄" => MT nD τ sig Unit (Elt F) ℕ (UR sig nD τ) ℕ

/-- The rotation amount the body computes from `n − k`: its remainder modulo `d`, made non-negative. -/
def turn (n d k : BitVec 32) : BitVec 32 :=
  let a := Scalar.subi n k
  let b := Scalar.select (Scalar.cmpi .eq d 0#32) 1#32 d
  let r := Scalar.remsi a b
  Scalar.select (Scalar.andi (Scalar.xori (Scalar.cmpi .slt r 0#32) (Scalar.cmpi .slt b 0#32)) (Scalar.cmpi .ne r 0#32))
    (Scalar.addi r b) r

/-- A channel padded with zeros below and to the right, turned along rows and columns, and cut to its first 224 × 224. -/
def turned (x : FVec F S8x224x224 .f32) (a b : BitVec 32) : FVec F S8x224x224 .f32 :=
  let z : F .f32 := Scalar.sitofp .f32 0#32
  extractStridedSlice S8x224x224 ![0, 0, 0] (dynamicRotate 2 b none (dynamicRotate 1 a none
    (concatenate S8x232x256 2 [⟨S8x232x224, concatenate S8x232x224 1 [⟨S8x224x224, x⟩, ⟨S8x8x224, broadcast S8x8x224 z⟩]
      concatenates_S8x224x224_S8x8x224_S8x232x224_d1⟩, ⟨S8x232x32, broadcast S8x232x32 z⟩] concatenates_S8x232x224_S8x232x32_S8x232x256_d2)
    rotates_S8x232x256_d1) rotates_S8x232x256_d2) slices_S8x232x256_o0_0_0_S8x224x224

/-- One sampled point: `wt` times the logistic of ten times the neighbour less the centre. -/
def point (wt : BitVec 32) (v : Vec F S8x1x224x224 .f32) (ky kx : BitVec 32) : FVec F S8x224x224 .f32 :=
  mulf (broadcast S8x224x224 (Scalar.ofBits .f32 wt)) (logistic (mulf
    (subf (turned (shapeCast S8x224x224 v shapeCasts_S8x1x224x224_S8x224x224) (turn 234#32 232#32 ky) (turn 258#32 256#32 kx))
      (shapeCast S8x224x224 v shapeCasts_S8x1x224x224_S8x224x224))
    (broadcast S8x224x224 (Scalar.ofBits .f32 0x41200000#32))))

/-- The block the body stores: the four points summed. -/
def stored (v0 v1 v2 v3 : Vec F S8x1x224x224 .f32) (ky kx : Fin 4 → BitVec 32) : FVec F S8x1x224x224 .f32 :=
  shapeCast S8x1x224x224 (addf (addf (addf (point 0x3F800000#32 v0 (ky 0) (kx 0)) (point 0x40000000#32 v1 (ky 1) (kx 1)))
    (point 0x40800000#32 v2 (ky 2) (kx 2))) (point 0x41000000#32 v3 (ky 3) (kx 3))) shapeCasts_S8x224x224_S8x1x224x224

/-- The three tables as the body is handed them. -/
abbrev tab0 : Memref sig .tc .smem S128 .i32 := Memref.whole main_v0
abbrev tab1 : Memref sig .tc .smem S128 .i32 := Memref.whole main_v3
abbrev tab2 : Memref sig .tc .smem S128 .i32 := Memref.whole main_v6

/-- A table held for reading: half its share. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The words of a table that grid point `i` reads, one per sampled point. -/
def words (x : IVec S128 32) (i : grid0.Coords) (p : Fin 4) : BitVec 32 :=
  x (ix1 ⟨4 * (i 0).val + p.val, by have h : (i 0).val < 32 := (i 0).isLt; omega⟩)

/-- A load of a whole staging buffer holding `x`, -/
def load (a : Memref sig .tc .vmem S8x1x224x224 .f32) (h : a.IsWhole) (x : Vec F S8x1x224x224 .f32) : Vec F S8x1x224x224 .f32 :=
  a.view.readAt (Elt F) (Rect.unit ![0, 0, 0, 0] S8x1x224x224.size inb_S8x1x224x224_S8x1x224x224_0_0_0_0).toLoadRect (h.unread x)

/-- reads `x`. -/
theorem load_eq (a : Memref sig .tc .vmem S8x1x224x224 .f32) (h : a.IsWhole) (x : Vec F S8x1x224x224 .f32) : load a h x = x := by
  unfold load
  rw [View.readAt_full, h.read_unread]

/-- The word the body loads from a table for point `p`, -/
def wordAt {c : Dev nD} (M : Memref sig .tc .smem S128 .i32) (t : Buf (Elt F) (M.view.loc (c : Thread nD τ))) (i : grid0.Coords) (p : Fin 4) : BitVec 32 :=
  M.view.readAt (Elt F) (Rect.unit (s := S128) (k0_off1 i (BitVec.ofNat 32 p.val)) S1.size (k0_off1_inb i p)).toLoadRect t
    (Shape.Idx.first (s := S1) (by decide))

/-- which is the table's word at `4 i + p`. -/
theorem wordAt_tab1 {c : Dev nD} (t : Buf (Elt F) (tab1.view.loc (c : Thread nD τ))) (i : grid0.Coords) : wordAt tab1 t i = words t i := by
  funext p
  refine congrArg t (funext fun a : Fin 1 => Fin.ext ?_)
  obtain rfl : a = 0 := Subsingleton.elim _ _
  show k0_off1 i (BitVec.ofNat 32 p.val) 0 + 1 * 0 = 4 * (i 0).val + p.val
  rw [k0_off1_eq]; rfl

theorem wordAt_tab2 {c : Dev nD} (t : Buf (Elt F) (tab2.view.loc (c : Thread nD τ))) (i : grid0.Coords) : wordAt tab2 t i = words t i :=
  wordAt_tab1 (c := c) t i

set_option maxHeartbeats 1000000 in
/-- THE BODY. Given its inputs and half of each table's share, it leaves the sum of the four points in its output. -/
theorem body_run (c : Dev nD) (i : grid0.Coords) (a0 a1 a2 a3 a4 : Memref sig .tc .vmem S8x1x224x224 .f32)
    (h0 : a0.IsWhole) (h1 : a1.IsWhole) (h2 : a2.IsWhole) (h3 : a3.IsWhole) (h4 : a4.IsWhole)
    (x0 x1 x2 x3 : Vec F S8x1x224x224 .f32) (t0 : Buf (Elt F) (tab0.view.loc (c : Thread nD τ)))
    (t1 : Buf (Elt F) (tab1.view.loc (c : Thread nD τ))) (t2 : Buf (Elt F) (tab2.view.loc (c : Thread nD τ)))
    (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ held c tab0 t0 ∗ held c tab1 t1 ∗ held c tab2 t2
        ∗ (iprop(owns (c : Thread nD τ) a0 fullShare x0 ∗ owns (c : Thread nD τ) a1 fullShare x1 ∗ owns (c : Thread nD τ) a2 fullShare x2
            ∗ owns (c : Thread nD τ) a3 fullShare x3
            ∗ owns (c : Thread nD τ) a4 fullShare (stored x0 x1 x2 x3 (words t1 i) (words t2 i))
            ∗ held c tab0 t0 ∗ held c tab1 t1 ∗ held c tab2 t2) -∗ K ⟨⟩))
      ⊢ wp frame (wpE (defs₀ (F := F)) Variants.none c none) E
          (cc0__lbp_body i tab0 (Memref.isWhole_whole _) tab1 (Memref.isWhole_whole _) tab2 (Memref.isWhole_whole _) a0 h0 a1 h1 a2 h2 a3 h3 a4 h4) K := by
  simp only [cc0__lbp_body_eq_skeleton]
  unfold cc0__lbp_body_skel
  simp only [k0_part1_eq_skeleton, k0_part2_eq_skeleton, k0_part3_eq_skeleton, k0_part4_eq_skeleton]
  unfold owns
  iintro ⟨⟨%f0, %e0, H0⟩, ⟨%f1, %e1, H1⟩, ⟨%f2, %e2, H2⟩, ⟨%f3, %e3, H3⟩, ⟨%d4, %f4, -, H4⟩, T0, T1, T2, Hk⟩
  obtain rfl := h0.eq_unread e0
  obtain rfl := h1.eq_unread e1
  obtain rfl := h2.eq_unread e2
  obtain rfl := h3.eq_unread e3
  sl_exec
  sl_step
  iapply Hk
  isplitl [H0]
  · iexists _
    isplitr
    · ipureintro; exact h0.read_unread _
    iexact H0
  isplitl [H1]
  · iexists _
    isplitr
    · ipureintro; exact h1.read_unread _
    iexact H1
  isplitl [H2]
  · iexists _
    isplitr
    · ipureintro; exact h2.read_unread _
    iexact H2
  isplitl [H3]
  · iexists _
    isplitr
    · ipureintro; exact h3.read_unread _
    iexact H3
  isplitl [H4]
  · iexists _
    isplitr
    swap
    · iexact H4
    ipureintro
    rw [View.read_writes_full]
    exact (rfl : _ = stored (load a0 h0 x0) (load a1 h1 x1) (load a2 h2 x2) (load a3 h3 x3) (wordAt tab1 t1 i) (wordAt tab2 t2 i)).trans
      (by rw [load_eq, load_eq, load_eq, load_eq, wordAt_tab1, wordAt_tab2])
  isplitl [T0]; · iexact T0
  isplitl [T1]; · iexact T1
  iexact T2

end Cert.KernelIdeal.Lbp
-- ==== Proof.Run.lean ====
/- The kernel's run, for any float operations and under a bound on its channel table: it terminates with every argument
   as it was, every semaphore at zero, and its result the array the blocks of `stored` make up. -/
module

public import proofs.«01_k».proof.Proof.Body
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.KernelIdeal.Lbp
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's part: the three tables -/

/-- What device `c`'s buffers hold when the pipeline starts. -/
abbrev entry (c : Dev nD) (b : Ref sig .tc) : Buf (Elt F) ((c : Thread nD τ).loc b) :=
  StableHlo.after hostOps0 (fun b => m (c, b)) b

/-- The host's operations take no buffer of their own. -/
theorem host_fresh : (hostOps0 : List (HloOp τ sig (Elt F))).Forall fun op => op.fresh = ∅ := by
  simp only [List.Forall]
  repeat' constructor

/-- They write only their own seven results. -/
theorem entry_of_not_written (c : Dev nD) (b : Ref sig .tc)
    (h : ∀ r ∈ ([main_v0, main_v1, main_v2, main_v3, main_v4, main_v5, main_v6] : List (Ref sig .tc)), b ≠ r) :
    entry m c b = m ((c : Thread nD τ).loc b) := by
  refine StableHlo.after_of_forall_not_mem (b := Proc.devRef .tc b) _ _ (List.forall_iff_forall_mem.mp ?_)
  simp only [hostOps0, List.Forall, StableHlo.unary_writes, StableHlo.reshape_writes, Finset.mem_singleton]
  simp only [List.mem_cons, List.not_mem_nil, or_false, forall_eq_or_imp, forall_eq] at h
  obtain ⟨h0, h1, h2, h3, h4, h5, h6⟩ := h
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6⟩

theorem entry_input (c : Dev nD) : entry m c main_arg0 = m ((c : Thread nD τ).loc main_arg0) := entry_of_not_written m c _ (by decide)
theorem entry_offsets (c : Dev nD) : entry m c main_arg1 = m ((c : Thread nD τ).loc main_arg1) := entry_of_not_written m c _ (by decide)
theorem entry_channels (c : Dev nD) : entry m c main_arg2 = m ((c : Thread nD τ).loc main_arg2) := entry_of_not_written m c _ (by decide)

/-- The program up to the pipeline is those operations. -/
theorem main_start (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub host_fresh main_chain

/-- The tables' contents: channels, row offsets, column offsets. -/
def tables : pre0.Contents (Elt F) := fun j => entry m (0 : Dev nD) (pre0.ref j)

theorem entry_tables (c : Dev nD) (j : Fin 3) : entry m c (pre0.ref j) = tables m j := by
  obtain rfl : c = 0 := Subsingleton.elim _ _
  rfl

/-- Every channel the pipeline is asked to fetch exists. -/
abbrev Fits : Prop := ok0 (F := F) (tables m)

abbrev pinned (hO : Fits m) : (pcfg0 (F := F)).Adm := ⟨tables m, hO⟩
abbrev cfgAt (hO : Fits m) : Pipeline.Cfg sig Λ₀ := cfg0 (pinned m hO)

/-- The tables' shares, table by table. -/
theorem tables_held (c : Dev nD) : (Pipeline.ΦT pre0 (tables m) c : sProp 𝕄)
    = iprop(held c tab0 (tables m 0) ∗ held c tab1 (tables m 1) ∗ held c tab2 (tables m 2)) := by
  unfold Pipeline.ΦT Pipeline.prefHeld
  exact bigSep_univ_eq_bigSepL [(0 : Fin 3), 1, 2] (by decide) (by decide) _

/-! ## The pipeline's data -/

/-- Window `w`'s block at grid point `t`, read off its array. -/
def blockAt (hO : Fits m) (c : Dev nD) (w : Fin (cfgAt m hO).W) (t : Fin (cfgAt m hO).N) :
    (((cfgAt m hO).win w).xblock ((cfgAt m hO).grid.coords t)).Idx → Elt F ((cfgAt m hO).win w).elt :=
  (((cfgAt m hO).win w).blk t).view.read (Elt F) (entry m c (Pipeline.arrRef spec0 w))

/-- What the body leaves in the output's buffer at grid point `t`. -/
def storedAt (hO : Fits m) (c : Dev nD) (t : Fin (cfgAt m hO).N) : Vec F S8x1x224x224 .f32 :=
  stored (blockAt m hO c 0 t) (blockAt m hO c 1 t) (blockAt m hO c 2 t) (blockAt m hO c 3 t)
    (words (tables m 1) (grid0.coords t)) (words (tables m 2) (grid0.coords t))

/-- The proof data: inputs keep their blocks, the output ends with `storedAt`. -/
def datAt (hO : Fits m) (_ : Fin 1) (c : Dev nD) : Dat τ (Elt F) Unit ℕ (UR sig nD τ) ℕ (cfgAt m hO) c where
  A w := entry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => storedAt m hO c t
  Φ _ := iprop(Pipeline.ΦA spec0 c ∗ Pipeline.ΦT pre0 (tables m) c)
  q w := Pipeline.shareOf spec0 w
  owed _ := 0

theorem datAt_A (hO : Fits m) (c : Dev nD) (w : Fin (cfgAt m hO).W) : (datAt m hO 0 c).A w = entry m c (Pipeline.arrRef spec0 w) := by
  dsimp only [datAt]

theorem after_0 (hO : Fits m) (c : Dev nD) (t : Fin (cfgAt m hO).N) : (datAt m hO 0 c).after 0 t = blockAt m hO c 0 t := by dsimp only [datAt]; rfl
theorem after_1 (hO : Fits m) (c : Dev nD) (t : Fin (cfgAt m hO).N) : (datAt m hO 0 c).after 1 t = blockAt m hO c 1 t := by dsimp only [datAt]; rfl
theorem after_2 (hO : Fits m) (c : Dev nD) (t : Fin (cfgAt m hO).N) : (datAt m hO 0 c).after 2 t = blockAt m hO c 2 t := by dsimp only [datAt]; rfl
theorem after_3 (hO : Fits m) (c : Dev nD) (t : Fin (cfgAt m hO).N) : (datAt m hO 0 c).after 3 t = blockAt m hO c 3 t := by dsimp only [datAt]; rfl
theorem after_4 (hO : Fits m) (c : Dev nD) (t : Fin (cfgAt m hO).N) : (datAt m hO 0 c).after 4 t = storedAt m hO c t := by dsimp only [datAt]; rfl

/-- An input's buffer holds its block when the body starts, fetched at this point or kept from the one before. -/
theorem before_0 (hO : Fits m) (c : Dev nD) (t : Fin (cfgAt m hO).N) (d) : (datAt m hO 0 c).before 0 t d = blockAt m hO c 0 t :=
  (datAt m hO 0 c).before_in_eq_fetched 0 rfl (fun _ => rfl) (fun _ _ _ => rfl) (after_0 m hO c) t d
theorem before_1 (hO : Fits m) (c : Dev nD) (t : Fin (cfgAt m hO).N) (d) : (datAt m hO 0 c).before 1 t d = blockAt m hO c 1 t :=
  (datAt m hO 0 c).before_in_eq_fetched 1 rfl (fun _ => rfl) (fun _ _ _ => rfl) (after_1 m hO c) t d
theorem before_2 (hO : Fits m) (c : Dev nD) (t : Fin (cfgAt m hO).N) (d) : (datAt m hO 0 c).before 2 t d = blockAt m hO c 2 t :=
  (datAt m hO 0 c).before_in_eq_fetched 2 rfl (fun _ => rfl) (fun _ _ _ => rfl) (after_2 m hO c) t d
theorem before_3 (hO : Fits m) (c : Dev nD) (t : Fin (cfgAt m hO).N) (d) : (datAt m hO 0 c).before 3 t d = blockAt m hO c 3 t :=
  (datAt m hO 0 c).before_in_eq_fetched 3 rfl (fun _ => rfl) (fun _ _ _ => rfl) (after_3 m hO c) t d

/-! ## The body's obligation -/

/-- The staging buffers the body is handed at grid point `t`. -/
abbrev buf0 (hO : Fits m) (t : Fin (cfgAt m hO).N) : Memref sig .tc .vmem S8x1x224x224 .f32 := spec0_0.stage ((cfgAt m hO).slots t 0)
abbrev buf1 (hO : Fits m) (t : Fin (cfgAt m hO).N) : Memref sig .tc .vmem S8x1x224x224 .f32 := spec0_1.stage ((cfgAt m hO).slots t 1)
abbrev buf2 (hO : Fits m) (t : Fin (cfgAt m hO).N) : Memref sig .tc .vmem S8x1x224x224 .f32 := spec0_2.stage ((cfgAt m hO).slots t 2)
abbrev buf3 (hO : Fits m) (t : Fin (cfgAt m hO).N) : Memref sig .tc .vmem S8x1x224x224 .f32 := spec0_3.stage ((cfgAt m hO).slots t 3)
abbrev buf4 (hO : Fits m) (t : Fin (cfgAt m hO).N) : Memref sig .tc .vmem S8x1x224x224 .f32 := spec0_4.stage ((cfgAt m hO).slots t 4)

/-- What the body starts with at grid point `t`, -/
def startsWith (hO : Fits m) (c : Dev nD) (t : Fin (cfgAt m hO).N) : sProp 𝕄 :=
  iprop((datAt m hO 0 c).Φ t.castSucc ∗ (datAt m hO 0 c).owesAt () t.castSucc
    ∗ (∃ d, owns (c : Thread nD τ) (buf0 m hO t) fullShare ((datAt m hO 0 c).before 0 t d))
    ∗ (∃ d, owns (c : Thread nD τ) (buf1 m hO t) fullShare ((datAt m hO 0 c).before 1 t d))
    ∗ (∃ d, owns (c : Thread nD τ) (buf2 m hO t) fullShare ((datAt m hO 0 c).before 2 t d))
    ∗ (∃ d, owns (c : Thread nD τ) (buf3 m hO t) fullShare ((datAt m hO 0 c).before 3 t d))
    ∗ (∃ d, owns (c : Thread nD τ) (buf4 m hO t) fullShare ((datAt m hO 0 c).before 4 t d)))

/-- and what it ends with. -/
def endsWith (hO : Fits m) (c : Dev nD) (t : Fin (cfgAt m hO).N) : sProp 𝕄 :=
  iprop((datAt m hO 0 c).Φ t.succ ∗ (datAt m hO 0 c).owesAt () t.succ
    ∗ owns (c : Thread nD τ) (buf0 m hO t) fullShare ((datAt m hO 0 c).after 0 t)
    ∗ owns (c : Thread nD τ) (buf1 m hO t) fullShare ((datAt m hO 0 c).after 1 t)
    ∗ owns (c : Thread nD τ) (buf2 m hO t) fullShare ((datAt m hO 0 c).after 2 t)
    ∗ owns (c : Thread nD τ) (buf3 m hO t) fullShare ((datAt m hO 0 c).after 3 t)
    ∗ owns (c : Thread nD τ) (buf4 m hO t) fullShare ((datAt m hO 0 c).after 4 t))

theorem body_at (hO : Fits m) (c : Dev nD) (t : Fin (cfgAt m hO).N) :
    startsWith m hO c t ⊢ wp frame (wpE (defs₀ (F := F)) Variants.none c none) Set.univ (bodyAt0 (pinned m hO) t) (fun _ => endsWith m hO c t) := by
  unfold startsWith endsWith bodyAt0
  simp only [before_0, before_1, before_2, before_3]
  rw [after_0, after_1, after_2, after_3, after_4,
    show (datAt m hO 0 c).Φ t.succ = (datAt m hO 0 c).Φ t.castSucc from rfl,
    show (datAt m hO 0 c).owesAt () t.succ = (datAt m hO 0 c).owesAt () t.castSucc from rfl,
    show (datAt m hO 0 c).Φ t.castSucc = iprop(Pipeline.ΦA spec0 c ∗ Pipeline.ΦT pre0 (tables m) c) from rfl, tables_held]
  iintro ⟨⟨HΦ, ⟨T0, T1, T2⟩⟩, Ho, ⟨%d0, H0⟩, ⟨%d1, H1⟩, ⟨%d2, H2⟩, ⟨%d3, H3⟩, ⟨%d4, H4⟩⟩
  iapply (body_run c (grid0.coords t) _ _ _ _ _ _ _ _ _ _ (blockAt m hO c 0 t) (blockAt m hO c 1 t) (blockAt m hO c 2 t)
    (blockAt m hO c 3 t) (tables m 0) (tables m 1) (tables m 2) Set.univ _)
  isplitl [H0]; · iexact H0
  isplitl [H1]; · iexact H1
  isplitl [H2]; · iexact H2
  isplitl [H3]; · iexact H3
  isplitl [H4]; · iexists _; iexact H4
  isplitl [T0]; · iexact T0
  isplitl [T1]; · iexact T1
  isplitl [T2]; · iexact T2
  iintro ⟨H0, H1, H2, H3, H4, T0, T1, T2⟩
  isplitl [HΦ T0 T1 T2]
  · isplitl [HΦ]
    · iexact HΦ
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  iexact H4

/-- The pipeline calls that body. -/
theorem row_at (hO : Fits m) (t : Fin (cfgAt m hO).N) :
    defs₀ (F := F) .tc (cfgAt m hO).body ((cfgAt m hO).bodyArgs t ((cfgAt m hO).slots t)) = bodyAt0 (pinned m hO) t := by
  unfold defs₀
  rw [Defs.onTc_tc]

theorem obligation (hO : Fits m) (c : Dev nD) : BodyObligation (datAt (F := F) m hO 0 c) (defs₀ (F := F)) Variants.none () Set.univ := fun t => by
  rw [bigSep_W0, bigSep_W0, row_at m hO]
  exact triple_restated (body_at m hO c t) rfl .rfl fun _ => .rfl

/-! ## The run -/

set_option backward.isDefEq.respectTransparency.types false in
/-- THE RUN. Every array of the pipeline ends at what its blocks make up, every other buffer as the pipeline found it, and
    every semaphore at zero. -/
theorem runs (hO : Fits m) : θ_run defs (onTc (τ := τ) (main (F := F))) (s₀ m ρ)
    (fun r => (Pipeline.FramePost (Pipeline.pin pcfgs fun _ => pinned m hO) (datAt m hO) 0 (entry m)) r ∧ r.2.sem = fun _ => 0) :=
  Pipeline.θ_run_frameP_shared (Q' := _) pcfgs (fun _ => pinned m hO) (datAt m hO) (0 : Fin 1) launch₀0 defs₀ Variants.none m ρ main
    (hbody := fun c => (obligation m hO c).loose) (hq := fun _ _ _ => rfl) (howed := fun _ _ => rfl) (V := entry m)
    (hmain := main_start m Variants.none) (hA := datAt_A m hO) (hpf := entry_tables m) (hΦ := fun _ _ => rfl)

/-- The result, the arguments and the semaphores after it. -/
theorem result (hO : Fits m) : θ_run defs (onTc (τ := τ) (main (F := F))) ⟨m, fun _ => 0, ρ⟩ (fun r => (∀ c : Dev nD,
      r.2.mem ((c.tc : Thread nD τ).loc main_v7) = (datAt m hO 0 c).arrAt 4 (cfgAt m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1 4,
    ((h.1 c).1 0).trans (((datAt m hO 0 c).arrAt_in 0 rfl _).trans ((datAt_A m hO c 0).trans (entry_input m c))),
    ((h.1 c).2 main_arg1 (by decide : main_arg1 ∈ Pipeline.restRefs sig spec0)).trans (entry_offsets m c),
    ((h.1 c).2 main_arg2 (by decide : main_arg2 ∈ Pipeline.restRefs sig spec0)).trans (entry_channels m c)⟩, h.2⟩) (runs m ρ hO)

end Cert.KernelIdeal.Lbp
-- ==== Proof.Range.lean ====
/- What the precondition `indices_in_range` says of the argument words, and what the pipeline's tables hold: the channels
   and the two offsets, row-major, so that every channel it is asked to fetch exists. -/
module

public import proofs.«01_k».proof.Pre_indices_in_range
public import proofs.«01_k».proof.Proof.Gen.Pre_indices_in_range
public import proofs.«01_k».proof.Proof.Run
public import Idealize.ShloMosaic.Lib.WordCmp

@[expose] public section

set_option maxRecDepth 16384

noncomputable section

open Idealize.ShloMosaic Idealize.ShloMosaic.TcCoe Idealize.SL.Sem

namespace Cert.KernelIdeal.Lbp
open Cert.KernelIdeal Cert.KernelIdeal.Gen

variable {F : FTy → Type} [FloatOps F]

/-! ## The precondition's words -/

/-- A word that passes the signed test `0 ≤ x < k` is below `k` as a natural number. -/
theorem lt_of_tests {k : Nat} (hk : k < 2 ^ 31) (x : BitVec 32)
    (h : IntOp.andi (IntOp.cmpi .sge x 0#32) (IntOp.cmpi .slt x (BitVec.ofNat 32 k)) = 1#1) : x.toNat < k := by
  rw [WordCmp.andi_sge_zero_slt_ofNat hk] at h
  simpa [WordCmp.ofBool_eq_one_iff] using h

/-- Where the precondition's second component is set, the sampling offsets are below 5. -/
theorem offset_lt (a : FVec F S8x64x224x224 .f32) (o : IVec S32x4x2 32) (c : IVec S32x4 32)
    (h : (Cert.Pre_indices_in_range.fn a o c).2.1 = fun _ => 1#1) (f : Fin 32) (p : Fin 4) (d : Fin 2) : (o (ix3 f p d)).toNat < 5 :=
  lt_of_tests (by decide) _ (congrFun h (ix3 f p d))

/-- Where its third component is set, the sampled channels are below 64. -/
theorem channel_lt (a : FVec F S8x64x224x224 .f32) (o : IVec S32x4x2 32) (c : IVec S32x4 32)
    (h : (Cert.Pre_indices_in_range.fn a o c).2.2 = fun _ => 1#1) (f : Fin 32) (p : Fin 4) : (c (ix2 f p)).toNat < 64 :=
  lt_of_tests (by decide) _ (congrFun h (ix2 f p))

/-! ## The tables -/

variable (m : (ℓ : Loc nD τ sig) → Buf (Elt F) ℓ)

/-- The input, the offsets and the channels as device `c` is given them. -/
abbrev input (c : Dev nD) : FVec F S8x64x224x224 .f32 := m ((c : Thread nD τ).loc main_arg0)
abbrev offsets (c : Dev nD) : IVec S32x4x2 32 := m ((c : Thread nD τ).loc main_arg1)
abbrev channels (c : Dev nD) : IVec S32x4 32 := m ((c : Thread nD τ).loc main_arg2)

/-- The first table is the channels, row-major, -/
theorem table_channels : tables m 0 = shapeCast S128 (channels m 0) shapeCasts_S32x4_S128 := by
  show entry m (0 : Dev nD) main_v0 = _
  unfold entry hostOps0
  after_results_simp
  rfl

/-- the second the row offsets, -/
theorem table_rows : tables m 1 = shapeCast S128 (shapeCast S32x4 (extractStridedSlice S32x4x1 ![0, 0, 0] (offsets m 0)
    slices_S32x4x2_S32x4x1_0_0_0) shapeCasts_S32x4x1_S32x4) shapeCasts_S32x4_S128 := by
  show entry m (0 : Dev nD) main_v3 = _
  unfold entry hostOps0
  after_results_simp
  rfl

/-- the third the column offsets. -/
theorem table_cols : tables m 2 = shapeCast S128 (shapeCast S32x4 (extractStridedSlice S32x4x1 ![0, 0, 1] (offsets m 0)
    slices_S32x4x2_S32x4x1_0_0_1) shapeCasts_S32x4x1_S32x4) shapeCasts_S32x4_S128 := by
  show entry m (0 : Dev nD) main_v6 = _
  unfold entry hostOps0
  after_results_simp
  rfl

/-- So the words grid point `i` reads for point `p` are the channel of pattern `i` at `p`, -/
theorem words_channels (i : grid0.Coords) (p : Fin 4) : words (tables m 0) i p = channels m 0 (ix2 (i 0) p) := by
  rw [table_channels]
  unfold words
  pointwise

/-- its row offset -/
theorem words_rows (i : grid0.Coords) (p : Fin 4) : words (tables m 1) i p = offsets m 0 (ix3 (i 0) p 0) := by
  rw [table_rows]
  unfold words
  pointwise

/-- and its column offset. -/
theorem words_cols (i : grid0.Coords) (p : Fin 4) : words (tables m 2) i p = offsets m 0 (ix3 (i 0) p 1) := by
  rw [table_cols]
  unfold words
  pointwise

/-- The side condition of the tables, from a bound on every sampled channel. -/
theorem fits (h : ∀ (f : Fin 32) (p : Fin 4), (channels m 0 (ix2 f p)).toNat < 64) : Fits m := by
  have hw : ∀ y : S128.Idx, ((tables m 0 : IVec S128 32) y).toNat < 64 := fun y => by
    rw [table_channels]
    idx_vars y
    pointwise
    exact h _ _
  have key : ∀ k < 64, ∀ a : Fin 4, ((![0, k, 0, 0] : Fin 4 → Nat) a + 1) * S8x1x224x224.size a ≤ S8x64x224x224.size a := by
    intro k hk a
    match a with
    | 0 => show (0 + 1) * 8 ≤ 8; decide
    | 1 => show (k + 1) * 1 ≤ 64; omega
    | 2 => show (0 + 1) * 224 ≤ 224; decide
    | 3 => show (0 + 1) * 224 ≤ 224; decide
  exact ⟨fun i => ⟨key _ (hw _), .inl rfl⟩, fun i => ⟨key _ (hw _), .inl rfl⟩, fun i => ⟨key _ (hw _), .inl rfl⟩, fun i => ⟨key _ (hw _), .inl rfl⟩⟩

end Cert.KernelIdeal.Lbp
-- ==== Proof.Frames.lean ====
/- The frame of the kernel as printed. Its text and its idealization's are the same, so the run proved for the latter at any
   float operations is also the former's at the machine's. -/
module

public import proofs.«01_k».proof.Defs
public import proofs.«01_k».proof.Proof.Gen.Kernel
public import proofs.«01_k».proof.Proof.Range

@[expose] public section

set_option maxRecDepth 16384

noncomputable section

open Idealize.ShloMosaic Idealize.ShloMosaic.TcCoe Idealize.SL.Sem

namespace Cert.KernelIdeal.Lbp
open Cert.KernelIdeal Cert.KernelIdeal.Gen

/-- The frame of the idealized kernel's text, at any float operations. -/
def FrameAt (F : FTy → Type) [FloatOps F] : Prop :=
  ∀ (m : (ℓ : Loc nD τ sig) → Buf (Elt F) ℓ) (g : Dev nD → PrngReg),
    (∀ c : Dev nD, (Cert.Pre_indices_in_range.fn (F := F) (input m c) (offsets m c) (channels m c)).1 = (fun _ => 1#1)
      ∧ (Cert.Pre_indices_in_range.fn (F := F) (input m c) (offsets m c) (channels m c)).2.1 = (fun _ => 1#1)
      ∧ (Cert.Pre_indices_in_range.fn (F := F) (input m c) (offsets m c) (channels m c)).2.2 = (fun _ => 1#1)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frameAt (F : FTy → Type) [FloatOps F] : FrameAt F := fun m g h =>
  (θ_run _ _ _).mono (fun _ r => ⟨fun c => (r.1 c).2, r.2⟩) (result m g (fits m (channel_lt _ _ _ (h 0).2.2)))

set_option maxHeartbeats 4000000 in
/-- At the machine's floats that is the frame of the kernel as printed. -/
theorem same : FrameAt Bits = Cert.quiescent_Kernel := by sl_kernel_rfl

theorem frame_kernel : Cert.quiescent_Kernel := same ▸ frameAt Bits

theorem frame_idealized : Cert.quiescent_KernelIdeal := frameAt Ideal

end Cert.KernelIdeal.Lbp
-- ==== Proof.Shift.lean ====
/- The body's block read at an element, over the extended reals: padding with zeros, two rotations and a slice read the
   channel shifted by the sampling offset, with zero outside the image. -/
module

public import proofs.«01_k».proof.Proof.Body
public import Idealize.ShloMosaic.PureOps.Ideal

@[expose] public section

set_option maxRecDepth 16384

noncomputable section

open Idealize.ShloMosaic Idealize.ShloMosaic.TcCoe Idealize.SL.Sem

namespace Cert.KernelIdeal.Lbp
open Cert.KernelIdeal Cert.KernelIdeal.Gen

/-- Rows turn by `234 − k` modulo 232. -/
theorem turn_rows (k : BitVec 32) (h : k.toNat < 5) : (turn 234#32 232#32 k).toNat = (234 - k.toNat) % 232 := by
  have hk : k = BitVec.ofNat 32 k.toNat := by simp
  generalize k.toNat = j at h hk
  subst hk
  interval_cases j <;> decide

/-- Columns turn by `258 − k` modulo 256. -/
theorem turn_cols (k : BitVec 32) (h : k.toNat < 5) : (turn 258#32 256#32 k).toNat = (258 - k.toNat) % 256 := by
  have hk : k = BitVec.ofNat 32 k.toNat := by simp
  generalize k.toNat = j at h hk
  subst hk
  interval_cases j <;> decide

/-- An image shifted by the offset `(i − 2, j − 2)`, zero outside. -/
def shifted (x : Fin 224 → Fin 224 → EReal) (i j : Nat) (h w : Fin 224) : EReal :=
  if hh : (2 ≤ h.val + i ∧ h.val + i < 226) ∧ (2 ≤ w.val + j ∧ w.val + j < 226) then
    x ⟨h.val + i - 2, by omega⟩ ⟨w.val + j - 2, by omega⟩
  else 0

theorem shifted_inside (x : Fin 224 → Fin 224 → EReal) (i j : Nat) (h w : Fin 224) (hh : 2 ≤ h.val + i ∧ h.val + i < 226)
    (hw : 2 ≤ w.val + j ∧ w.val + j < 226) :
    shifted x i j h w = x ⟨h.val + i - 2, by omega⟩ ⟨w.val + j - 2, by omega⟩ := dif_pos ⟨hh, hw⟩

theorem shifted_outside (x : Fin 224 → Fin 224 → EReal) (i j : Nat) (h w : Fin 224)
    (c : ¬ ((2 ≤ h.val + i ∧ h.val + i < 226) ∧ (2 ≤ w.val + j ∧ w.val + j < 226))) : shifted x i j h w = 0 := dif_neg c

/-- Turning by those amounts is that shift. -/
theorem turned_at (x : FVec Ideal S8x224x224 .f32) (a b : BitVec 32) (i j : Nat) (hi : i < 5) (hj : j < 5)
    (ha : a.toNat = (234 - i) % 232) (hb : b.toNat = (258 - j) % 256) (n : Fin 8) (h w : Fin 224) :
    turned x a b (ix3 n h w) = shifted (fun r s => x (ix3 n r s)) i j h w := by
  have eh : (h.val + 232 - (234 - i) % 232 % 232) % 232 = (h.val + i + 230) % 232 := by omega
  have ew : (w.val + 256 - (258 - j) % 256 % 256) % 256 = (w.val + j + 254) % 256 := by omega
  pointwise [turned, ha, hb, eh, ew]
  have z : (((0#32 : BitVec 32).toInt : ℝ) : EReal) = 0 := by simp
  by_cases hw : 2 ≤ w.val + j ∧ w.val + j < 226
  · have cw : (w.val + j + 254) % 256 = w.val + j - 2 := by omega
    have cw' : (w.val + j + 254) % 256 < 224 := by omega
    by_cases hh : 2 ≤ h.val + i ∧ h.val + i < 226
    · have ch : (h.val + i + 230) % 232 = h.val + i - 2 := by omega
      have ch' : (h.val + i + 230) % 232 < 224 := by omega
      refine (dif_pos cw').trans ((dif_pos ch').trans (Eq.trans ?_ (shifted_inside _ i j h w hh hw).symm))
      exact congrArg₂ (fun r s => x (ix3 n r s)) (Fin.ext ch) (Fin.ext cw)
    · have ch' : ¬ (h.val + i + 230) % 232 < 224 := by omega
      have c : ¬ ((2 ≤ h.val + i ∧ h.val + i < 226) ∧ (2 ≤ w.val + j ∧ w.val + j < 226)) := fun q => hh q.1
      rw [dif_pos cw', dif_neg ch', shifted_outside _ _ _ _ _ c, z]
  · have cw' : ¬ (w.val + j + 254) % 256 < 224 := by omega
    have c : ¬ ((2 ≤ h.val + i ∧ h.val + i < 226) ∧ (2 ≤ w.val + j ∧ w.val + j < 226)) := fun q => hw q.2
    rw [dif_neg cw', shifted_outside _ _ _ _ _ c, z]

/-- The logistic of ten times what a sampled point exceeds its centre by. -/
def bit (x : Fin 224 → Fin 224 → EReal) (i j : Nat) (h w : Fin 224) : EReal :=
  Ideal.logistic ((shifted x i j h w - x h w) * 10)

/-- The constants 10, 1, 2, 4 and 8 as the kernel writes them. -/
theorem ten : (Ideal.ofBits .f32 0x41200000#32 : EReal) = 10 := by
  rw [show (10 : EReal) = ((10 : ℝ) : EReal) by norm_cast]
  simp [Ideal.ofBits, Ideal.ieee, -EReal.coe_mul]; norm_num
theorem one : (Ideal.ofBits .f32 0x3F800000#32 : EReal) = 1 := by
  rw [show (1 : EReal) = ((1 : ℝ) : EReal) by norm_cast]
  simp [Ideal.ofBits, Ideal.ieee, -EReal.coe_mul]; norm_num
theorem two : (Ideal.ofBits .f32 0x40000000#32 : EReal) = 2 := by
  rw [show (2 : EReal) = ((2 : ℝ) : EReal) by norm_cast]
  simp [Ideal.ofBits, Ideal.ieee, -EReal.coe_mul]; norm_num
theorem four : (Ideal.ofBits .f32 0x40800000#32 : EReal) = 4 := by
  rw [show (4 : EReal) = ((4 : ℝ) : EReal) by norm_cast]
  simp [Ideal.ofBits, Ideal.ieee, -EReal.coe_mul]; norm_num
theorem eight : (Ideal.ofBits .f32 0x41000000#32 : EReal) = 8 := by
  rw [show (8 : EReal) = ((8 : ℝ) : EReal) by norm_cast]
  simp [Ideal.ofBits, Ideal.ieee, -EReal.coe_mul]; norm_num

theorem point_at (wt : BitVec 32) (v : Vec Ideal S8x1x224x224 .f32) (ky kx : BitVec 32) (hy : ky.toNat < 5) (hx : kx.toNat < 5)
    (n : Fin 8) (h w : Fin 224) :
    point wt v ky kx (ix3 n h w) = Ideal.ofBits .f32 wt * bit (fun r s => v (ix4 n 0 r s)) ky.toNat kx.toNat h w := by
  have e := turned_at (shapeCast S8x224x224 v shapeCasts_S8x1x224x224_S8x224x224) _ _ _ _ hy hx (turn_rows ky hy) (turn_cols kx hx) n h w
  pointwise [point, bit] at *
  rw [e, ten]

/-- The stored block at an element: the four points in the kernel's order. -/
theorem stored_at (v0 v1 v2 v3 : Vec Ideal S8x1x224x224 .f32) (ky kx : Fin 4 → BitVec 32) (hy : ∀ p, (ky p).toNat < 5)
    (hx : ∀ p, (kx p).toNat < 5) (n : Fin 8) (h w : Fin 224) :
    stored v0 v1 v2 v3 ky kx (ix4 n 0 h w)
      = ((bit (fun r s => v0 (ix4 n 0 r s)) (ky 0).toNat (kx 0).toNat h w
          + 2 * bit (fun r s => v1 (ix4 n 0 r s)) (ky 1).toNat (kx 1).toNat h w)
        + 4 * bit (fun r s => v2 (ix4 n 0 r s)) (ky 2).toNat (kx 2).toNat h w)
        + 8 * bit (fun r s => v3 (ix4 n 0 r s)) (ky 3).toNat (kx 3).toNat h w := by
  pointwise [stored]
  rw [point_at _ _ _ _ (hy 0) (hx 0), point_at _ _ _ _ (hy 1) (hx 1), point_at _ _ _ _ (hy 2) (hx 2), point_at _ _ _ _ (hy 3) (hx 3),
    one, two, four, eight, one_mul]

end Cert.KernelIdeal.Lbp
-- ==== Proof.Value.lean ====
/- The kernel's result as an array, over the extended reals: the four blocks a grid point fetches are the channels its
   pattern samples, and the blocks it writes back tile the result. -/
module

public import proofs.«01_k».proof.Proof.Range
public import proofs.«01_k».proof.Proof.Shift

@[expose] public section

set_option maxRecDepth 16384

noncomputable section

open Idealize.ShloMosaic Idealize.ShloMosaic.TcCoe Idealize.SL.Sem
open Idealize.ShloMosaic.Pipeline (Dat)

namespace Cert.KernelIdeal.Lbp
open Cert.KernelIdeal Cert.KernelIdeal.Gen

section Blocks
variable {F : FTy → Type} [FloatOps F]

/-- The word an index map reads for point `p` is the table's word for it. -/
theorem prefetched (pf : pre0.Contents (Elt F)) (i : grid0.Coords) (p : Fin 4) :
    (pf.at 0 (Rect.unit (s := S128) (k0_off1 i (BitVec.ofNat 32 p.val)) S1.size (k0_off1_inb i p)) numel1_S1 : BitVec 32)
      = words (pf 0) i p := by
  refine congrArg (pf 0 : IVec S128 32) (funext fun a : Fin 1 => Fin.ext ?_)
  obtain rfl : a = 0 := Subsingleton.elim _ _
  show k0_off1 i (BitVec.ofNat 32 p.val) 0 + 1 * 0 = 4 * (i 0).val + p.val
  rw [k0_off1_eq]; rfl

/-- The index map of point `p`'s window: the whole of one channel. -/
def channelMap (pf : pre0.Contents (Elt F)) (i : grid0.Coords) (p : Fin 4) : Fin 4 → Nat := ![0, (words (pf 0) i p).toNat, 0, 0]

theorem map_0 (pf : pre0.Contents (Elt F)) (i : grid0.Coords) : ix0 pf 0 i = channelMap pf i 0 :=
  congrArg (fun k : BitVec 32 => ![0, k.toNat, 0, 0]) (prefetched pf i 0)
theorem map_1 (pf : pre0.Contents (Elt F)) (i : grid0.Coords) : ix0 pf 1 i = channelMap pf i 1 :=
  congrArg (fun k : BitVec 32 => ![0, k.toNat, 0, 0]) (prefetched pf i 1)
theorem map_2 (pf : pre0.Contents (Elt F)) (i : grid0.Coords) : ix0 pf 2 i = channelMap pf i 2 :=
  congrArg (fun k : BitVec 32 => ![0, k.toNat, 0, 0]) (prefetched pf i 2)
theorem map_3 (pf : pre0.Contents (Elt F)) (i : grid0.Coords) : ix0 pf 3 i = channelMap pf i 3 :=
  congrArg (fun k : BitVec 32 => ![0, k.toNat, 0, 0]) (prefetched pf i 3)

/-- An index of the input that lies in channel `k`'s block, `(n, 0, r, s)` within it. -/
theorem in_channel (x : FVec F S8x64x224x224 .f32) (ix : Fin 4 → Nat) (k : Fin 64) (n : Fin 8) (r s : Fin 224) (y : S8x64x224x224.Idx)
    (hk : ix = ![0, k.val, 0, 0])
    (hy : ∀ a : Fin 4, (y a).val = ix a * S8x1x224x224.size a + 1 * ((ix4 n 0 r s : S8x1x224x224.Idx) a).val) :
    x y = x (ix4 n k r s) := by
  subst hk
  refine congrArg x (funext fun a => Fin.ext ((hy a).trans ?_))
  match a with
  | ⟨0, _⟩ => show 0 * 8 + 1 * n.val = n.val; omega
  | ⟨1, _⟩ => show k.val * 1 + 1 * 0 = k.val; omega
  | ⟨2, _⟩ => show 0 * 224 + 1 * r.val = r.val; omega
  | ⟨3, _⟩ => show 0 * 224 + 1 * s.val = s.val; omega

variable (m : (ℓ : Loc nD τ sig) → Buf (Elt F) ℓ)

/-- The same with the block index as the window of point `p` maps it, at pattern `i`. -/
theorem in_sampled (hc : ∀ f p, (channels m 0 (ix2 f p)).toNat < 64) (c : Dev nD) (i : grid0.Coords) (p : Fin 4) (ix : Fin 4 → Nat)
    (e : ix = channelMap (tables m) i p) (n : Fin 8) (r s : Fin 224) (y : S8x64x224x224.Idx)
    (hy : ∀ a : Fin 4, (y a).val = ix a * S8x1x224x224.size a + 1 * ((ix4 n 0 r s : S8x1x224x224.Idx) a).val) :
    (entry m c main_arg0 : FVec F S8x64x224x224 .f32) y = input m c (ix4 n ⟨(channels m 0 (ix2 (i 0) p)).toNat, hc _ _⟩ r s) :=
  (in_channel _ ix ⟨_, hc (i 0) p⟩ n r s y (by rw [e, channelMap, words_channels]) hy).trans (congrFun (entry_input m c) _)

variable (hO : Fits m) (hc : ∀ f p, (channels m 0 (ix2 f p)).toNat < 64) (c : Dev nD) (t : Fin (cfgAt m hO).N)
  (n : Fin 8) (r s : Fin 224)

/-- The channel of pattern `f` at point `p`, as device `c` is given it. -/
abbrev sampled (f : Fin 32) (p : Fin 4) (n : Fin 8) (r s : Fin 224) : F .f32 :=
  input m c (ix4 n ⟨(channels m 0 (ix2 f p)).toNat, hc f p⟩ r s)

/-- The four blocks at a grid point. -/
theorem block_0 : blockAt m hO c 0 t (ix4 n 0 r s) = sampled m hc c (grid0.coords t 0) 0 n r s :=
  in_sampled m hc c _ 0 _ (map_0 _ _) n r s _ fun _ => rfl
theorem block_1 : blockAt m hO c 1 t (ix4 n 0 r s) = sampled m hc c (grid0.coords t 0) 1 n r s :=
  in_sampled m hc c _ 1 _ (map_1 _ _) n r s _ fun _ => rfl
theorem block_2 : blockAt m hO c 2 t (ix4 n 0 r s) = sampled m hc c (grid0.coords t 0) 2 n r s :=
  in_sampled m hc c _ 2 _ (map_2 _ _) n r s _ fun _ => rfl
theorem block_3 : blockAt m hO c 3 t (ix4 n 0 r s) = sampled m hc c (grid0.coords t 0) 3 n r s :=
  in_sampled m hc c _ 3 _ (map_3 _ _) n r s _ fun _ => rfl

end Blocks

/-! ## The result array -/

variable (m : (ℓ : Loc nD τ sig) → Buf (Elt Ideal) ℓ) (hO : Fits m) (ho : ∀ f p k, (offsets m 0 (ix3 f p k)).toNat < 5)
  (hc : ∀ f p, (channels m 0 (ix2 f p)).toNat < 64) (c : Dev nD)

/-- The bit of point `p` of pattern `f`. -/
def bitOf (n : Fin 8) (f : Fin 32) (p : Fin 4) (h w : Fin 224) : EReal :=
  bit (sampled m hc c f p n) (offsets m 0 (ix3 f p 0)).toNat (offsets m 0 (ix3 f p 1)).toNat h w

/-- The four bits of a pattern, weighted and added in the kernel's order. -/
def code (n : Fin 8) (f : Fin 32) (h w : Fin 224) : EReal :=
  ((bitOf m hc c n f 0 h w + 2 * bitOf m hc c n f 1 h w) + 4 * bitOf m hc c n f 2 h w) + 8 * bitOf m hc c n f 3 h w

/-- The array of those. -/
def codes : FVec Ideal S8x32x224x224 .f32 := fun y => code m hc c (y 0) (y 1) (y 2) (y 3)

include ho in
/-- What the body stores at a grid point. -/
theorem storedAt_at (t : Fin (cfgAt m hO).N) (n : Fin 8) (h w : Fin 224) :
    storedAt m hO c t (ix4 n 0 h w) = code m hc c n (grid0.coords t 0) h w := by
  have e := stored_at (blockAt m hO c 0 t) (blockAt m hO c 1 t) (blockAt m hO c 2 t) (blockAt m hO c 3 t)
    (words (tables m 1) (grid0.coords t)) (words (tables m 2) (grid0.coords t))
    (fun p => by rw [words_rows]; exact ho _ _ _) (fun p => by rw [words_cols]; exact ho _ _ _) n h w
  refine (e : storedAt m hO c t (ix4 n 0 h w) = _).trans ?_
  simp only [words_rows, words_cols, block_0 m hO hc, block_1 m hO hc, block_2 m hO hc, block_3 m hO hc]
  rfl

/-- Where a grid point's block of the result lies: its pattern's plane. -/
theorem result_index (t : Fin (cfgAt m hO).N) (n : Fin 8) (h w : Fin 224) :
    (((cfgAt m hO).win 4).blk t).view.emb (ix4 n 0 h w : S8x1x224x224.Idx) = (ix4 n (grid0.coords t 0) h w : S8x32x224x224.Idx) := by
  have e : ∀ y : S8x32x224x224.Idx, (∀ a : Fin 4, (y a).val = cc0_transform_4 (grid0.coords t) a * S8x1x224x224.size a
      + 1 * ((ix4 n 0 h w : S8x1x224x224.Idx) a).val) → y = ix4 n (grid0.coords t 0) h w := fun y hy => by
    refine funext fun a => Fin.ext ((hy a).trans ?_)
    have hl : (grid0.coords t 0).val < 32 := (grid0.coords t 0).isLt
    match a with
    | ⟨0, _⟩ => show 0 * 8 + 1 * n.val = n.val; omega
    | ⟨1, _⟩ => show (grid0.coords t 0).val % 2 ^ 32 * 1 + 1 * 0 = (grid0.coords t 0).val; omega
    | ⟨2, _⟩ => show 0 * 224 + 1 * h.val = h.val; omega
    | ⟨3, _⟩ => show 0 * 224 + 1 * w.val = w.val; omega
  exact e _ fun _ => rfl

include ho in
/-- What a grid point writes back is its block of the array. -/
theorem flushed_eq (t : Fin (cfgAt m hO).N) :
    (datAt m hO 0 c).flushed 4 t = (((cfgAt m hO).win 4).blk t).view.read (Elt Ideal) (codes m hc c) := by
  show ((cfgAt m hO).win 4).cut (grid0.coords t) ((datAt m hO 0 c).after 4 t) = _
  rw [after_4]
  funext (j : S8x1x224x224.Idx)
  show storedAt m hO c t j = codes m hc c ((((cfgAt m hO).win 4).blk t).view.emb j)
  idx_vars j
  obtain rfl : j1 = 0 := Subsingleton.elim _ _
  exact (storedAt_at m hO ho hc c t j0 j2 j3).trans (congrArg (codes m hc c) (result_index m hO t j0 j2 j3)).symm

/-- The grid has one axis. -/
theorem coords_val (t : Fin grid0.N) : (grid0.coords t 0).val = t.val := by
  revert t; decide

/-- The blocks tile the result. -/
theorem cover (i : S8x32x224x224.Idx) :
    ∃ t : Fin (cfgAt m hO).N, ((cfgAt m hO).win 4).flush t = true ∧ i ∈ (((cfgAt m hO).win 4).blk t).view.set := by
  have h1 : (i 1).val < 32 := (i 1).isLt
  let t : Fin grid0.N := ⟨(i 1).val, by rw [N_0]; exact h1⟩
  have ht : (grid0.coords t 0).val = (i 1).val := coords_val t
  refine ⟨t, flush0_4 _ t, ?_⟩
  have e : (((cfgAt m hO).win 4).blk t).view.emb (ix4 (i 0) 0 (i 2) (i 3) : S8x1x224x224.Idx) = i :=
    (result_index m hO t (i 0) (i 2) (i 3)).trans (funext fun a => match a with
      | ⟨0, _⟩ => rfl
      | ⟨1, _⟩ => Fin.ext ht
      | ⟨2, _⟩ => rfl
      | ⟨3, _⟩ => rfl)
  rw [← e]
  exact View.emb_mem_set _ _

include ho in
/-- So the kernel leaves the array of the codes. -/
theorem final : (datAt m hO 0 c).arrAt 4 (cfgAt m hO).N = codes m hc c :=
  (datAt m hO 0 c).arrAt_eq_of_cover 4 (codes m hc c) (fun t _ => flushed_eq m hO ho hc c t) (cover m hO)

end Cert.KernelIdeal.Lbp
-- ==== Proof.Gather.lean ====
/- The reference's two gathers read at an element: one fetches a single padded pixel per result element, the other a whole
   224×224 window per sampled channel. -/
module

public import proofs.«01_k».proof.ReferenceIdeal
public import proofs.«01_k».proof.Proof.Gen.ReferenceIdeal
public import Idealize.ShloMosaic.Lib.ValueIdxCore
public import Idealize.ShloMosaic.Lib.Pointwise

@[expose] public section

set_option maxRecDepth 16384

noncomputable section

open Idealize.ShloMosaic Idealize.ShloMosaic.TcCoe Idealize.SL.Sem

namespace Cert.ReferenceIdeal.Lbp
open Cert.ReferenceIdeal

variable {α : Type}

/-- The two gathers' dimension numbers. -/
abbrev pixels := gather_S8x64x228x228_S128x224x224x3_S8x128x224x224_0_123_n_n_123_3_8111
abbrev windows := gather_S8x64x228x228_S128x3_S8x128x224x224_023_1_n_n_123_1_81224224

/-- An axis is read at its start index plus its offset when no axis is a batching one. -/
theorem gather_at {s si t : Shape} (d : GatherDims s si t) (hb : d.operandBatchingDims = []) (x : s.Idx → α) (idx : IVec si 32)
    (y : t.Idx) (z : s.Idx) (h : ∀ a, d.start y idx a + d.offCoord y a = (z a).val) : Host.gather d x idx y = x z := by
  unfold Host.gather
  refine congrArg x (funext fun a => Fin.ext ?_)
  show d.start y idx a + d.batchCoord y a + d.offCoord y a = _
  rw [GatherDims.batchCoord_eq_zero _ _ _ (by rw [hb]; exact List.not_mem_nil), Nat.add_zero]
  exact h a

/-- The start of a mapped axis whose word is in range: the word itself. -/
theorem start_at {s si t : Shape} (d : GatherDims s si t) (idx : IVec si 32) (y : t.Idx) (a : Fin s.rank) (ha : a ∈ d.startIndexMap)
    (z : si.Idx) (hz : d.siIdx y ⟨d.startIndexMap.idxOf a, List.idxOf_lt_length_iff.2 ha⟩ = z) (k : Nat)
    (hk : (idx z).toInt.toNat = k) (hl : k ≤ s.size a - d.sliceSizes a) : d.start y idx a = k := by
  unfold GatherDims.start
  rw [dif_pos ha, hz, hk]
  exact Nat.min_eq_left hl

/-- One pixel per result element: the channel, row and column its three words name. -/
theorem gather_pixel (x : S8x64x228x228.Idx → α) (idx : IVec S128x224x224x3 32) (n : Fin 8) (q : Fin 128) (h w : Fin 224)
    (k : Fin 64) (r s : Fin 228) (hk : (idx (ix4 q h w 0)).toInt.toNat = k.val) (hr : (idx (ix4 q h w 1)).toInt.toNat = r.val)
    (hs : (idx (ix4 q h w 2)).toInt.toNat = s.val) :
    Host.gather pixels x idx (ix4 n q h w) = x (ix4 n k r s) := by
  refine gather_at _ rfl x idx _ _ fun a => ?_
  have idxOf_at : ∀ (c : Fin 3), GatherDims.siIdx pixels
      (ix4 n q h w) c = ix4 q h w c := by
    intro c
    funext b
    refine Fin.ext ?_
    match b with
    | ⟨0, _⟩ => rfl
    | ⟨1, _⟩ => rfl
    | ⟨2, _⟩ => rfl
    | ⟨3, _⟩ => rfl
  match a with
  | ⟨0, _⟩ => show 0 + n.val = n.val; omega
  | ⟨1, _⟩ => exact (congrArg (· + 0) (start_at pixels idx _ (1 : Fin 4) (by decide) _ (idxOf_at 0) _ hk (show k.val ≤ 63 by omega)))
  | ⟨2, _⟩ => exact (congrArg (· + 0) (start_at pixels idx _ (2 : Fin 4) (by decide) _ (idxOf_at 1) _ hr (show r.val ≤ 227 by omega)))
  | ⟨3, _⟩ => exact (congrArg (· + 0) (start_at pixels idx _ (3 : Fin 4) (by decide) _ (idxOf_at 2) _ hs (show s.val ≤ 227 by omega)))

/-- One window per sampled channel, from row 2 and column 2: the image inside its padding. -/
theorem gather_window (x : S8x64x228x228.Idx → α) (idx : IVec S128x3 32) (n : Fin 8) (q : Fin 128) (h w : Fin 224)
    (k : Fin 64) (hk : (idx (ix2 q 0)).toInt.toNat = k.val) (hr : (idx (ix2 q 1)).toInt.toNat = 2)
    (hs : (idx (ix2 q 2)).toInt.toNat = 2) :
    Host.gather windows x idx (ix4 n q h w)
      = x (ix4 n k ⟨2 + h.val, by omega⟩ ⟨2 + w.val, by omega⟩) := by
  refine gather_at _ rfl x idx _ _ fun a => ?_
  have idxOf_at : ∀ (c : Fin 3), GatherDims.siIdx windows
      (ix4 n q h w) c = ix2 q c := by
    intro c
    funext b
    refine Fin.ext ?_
    match b with
    | ⟨0, _⟩ => rfl
    | ⟨1, _⟩ => rfl
  match a with
  | ⟨0, _⟩ => show 0 + n.val = n.val; omega
  | ⟨1, _⟩ => exact (congrArg (· + 0) (start_at windows idx _ (1 : Fin 4) (by decide) _ (idxOf_at 0) _ hk (show k.val ≤ 63 by omega)))
  | ⟨2, _⟩ => exact (congrArg (· + h.val) (start_at windows idx _ (2 : Fin 4) (by decide) _ (idxOf_at 1) _ hr (show 2 ≤ 4 by omega)))
  | ⟨3, _⟩ => exact (congrArg (· + w.val) (start_at windows idx _ (3 : Fin 4) (by decide) _ (idxOf_at 2) _ hs (show 2 ≤ 4 by omega)))

end Cert.ReferenceIdeal.Lbp
-- ==== Proof.Host.lean ====
/- The reference's result at an element, over the extended reals and where every offset and channel is in range: the four
   sampled points' bits, weighted by the powers of two. -/
module

public import proofs.«01_k».proof.Proof.Gather
public import proofs.«01_k».proof.Proof.Shift
public import proofs.«01_k».proof.Proof.Gen.ReferenceIdeal.Run
public import Idealize.ShloMosaic.Lib.WordCmp

@[expose] public section

set_option maxRecDepth 16384

noncomputable section

open Idealize.ShloMosaic Idealize.ShloMosaic.TcCoe Idealize.SL.Sem

namespace Cert.ReferenceIdeal.Lbp
open Cert.ReferenceIdeal Cert.ReferenceIdeal.Value Cert.ReferenceIdeal.Gen
open Cert.KernelIdeal.Lbp (bit shifted shifted_inside shifted_outside one two ten)

/-! ## The words -/

/-- An index counted from the end when it is negative. -/
abbrev wrap (k x : BitVec 32) : BitVec 32 := Scalar.select (IntOp.cmpi .slt x 0#32) (IntOp.addi x k) x

/-- An index that is not negative stays, and reads signed as it does unsigned. -/
theorem wrap_small (k x : BitVec 32) (hx : x.toNat < 2 ^ 31) : (wrap k x).toInt.toNat = x.toNat := by
  have hs : IntOp.cmpi .slt x 0#32 = 0#1 := by
    rw [WordCmp.cmpi_slt_zero, decide_eq_false (by omega)]
    rfl
  rw [wrap, hs, show ∀ y z : BitVec 32, Scalar.select 0#1 y z = z from fun _ _ => rfl,
    WordCmp.toInt_eq_toNat_of_lt_half hx, Int.toNat_natCast]

/-- The channels, the row offsets and the column offsets, row-major. -/
abbrev flatChannels (c : IVec S32x4 32) : IVec S128 32 := shapeCast S128 c shapeCasts_S32x4_S128
abbrev flatRows (o : IVec S32x4x2 32) : IVec S128 32 :=
  shapeCast S128 (shapeCast S32x4 (extractStridedSlice S32x4x1 ![0, 0, 0] o slices_S32x4x2_S32x4x1_0_0_0) shapeCasts_S32x4x1_S32x4)
    shapeCasts_S32x4_S128
abbrev flatCols (o : IVec S32x4x2 32) : IVec S128 32 :=
  shapeCast S128 (shapeCast S32x4 (extractStridedSlice S32x4x1 ![0, 0, 1] o slices_S32x4x2_S32x4x1_0_0_1) shapeCasts_S32x4x1_S32x4)
    shapeCasts_S32x4_S128

/-- What the pixel gather is handed: per result element a channel, -/
def pixelChannels (c : IVec S32x4 32) : IVec S128x1x1 32 :=
  let x := broadcastInDim S128x1x1 ![0] bcast_S128_S128x1x1_0 (flatChannels c)
  select (cmpi .slt x (broadcastInDim S128x1x1 ![] bcast_S_S128x1x1 (constantI S_ 32 0#32)))
    (addi x (broadcastInDim S128x1x1 ![] bcast_S_S128x1x1 (constantI S_ 32 64#32))) x

/-- a row of the padded image -/
def pixelRows (o : IVec S32x4x2 32) : IVec S128x224x1 32 :=
  let x := addi (broadcastInDim S128x224x1 ![0, 1, 2] bcast_S128x1x1_S128x224x1_0_1_2
      (broadcastInDim S128x1x1 ![0] bcast_S128_S128x1x1_0 (flatRows o)))
    (broadcastInDim S128x224x1 ![0, 1, 2] bcast_S1x224x1_S128x224x1_0_1_2 (broadcastInDim S1x224x1 ![1, 2] bcast_S224x1_S1x224x1_1_2
      (broadcastInDim S224x1 ![0] bcast_S224_S224x1_0 (iotaInDim S224 32 0))))
  select (cmpi .slt x (broadcastInDim S128x224x1 ![] bcast_S_S128x224x1 (constantI S_ 32 0#32)))
    (addi x (broadcastInDim S128x224x1 ![] bcast_S_S128x224x1 (constantI S_ 32 228#32))) x

/-- and a column of it, -/
def pixelCols (o : IVec S32x4x2 32) : IVec S128x1x224 32 :=
  let x := addi (broadcastInDim S128x1x224 ![0, 1, 2] bcast_S128x1x1_S128x1x224_0_1_2
      (broadcastInDim S128x1x1 ![0] bcast_S128_S128x1x1_0 (flatCols o)))
    (broadcastInDim S128x1x224 ![0, 1, 2] bcast_S1x1x224_S128x1x224_0_1_2
      (broadcastInDim S1x1x224 ![2] bcast_S224_S1x1x224_2 (iotaInDim S224 32 0)))
  select (cmpi .slt x (broadcastInDim S128x1x224 ![] bcast_S_S128x1x224 (constantI S_ 32 0#32)))
    (addi x (broadcastInDim S128x1x224 ![] bcast_S_S128x1x224 (constantI S_ 32 228#32))) x

/-- side by side. -/
def pixelWords (o : IVec S32x4x2 32) (c : IVec S32x4 32) : IVec S128x224x224x3 32 :=
  concatenate S128x224x224x3 3
    [⟨S128x224x224x1, broadcastInDim S128x224x224x1 ![0, 1, 2] bcast_S128x224x224_S128x224x224x1_0_1_2
        (broadcastInDim S128x224x224 ![0, 1, 2] bcast_S128x1x1_S128x224x224_0_1_2 (pixelChannels c))⟩,
      ⟨S128x224x224x1, broadcastInDim S128x224x224x1 ![0, 1, 2] bcast_S128x224x224_S128x224x224x1_0_1_2
        (broadcastInDim S128x224x224 ![0, 1, 2] bcast_S128x224x1_S128x224x224_0_1_2 (pixelRows o))⟩,
      ⟨S128x224x224x1, broadcastInDim S128x224x224x1 ![0, 1, 2] bcast_S128x224x224_S128x224x224x1_0_1_2
        (broadcastInDim S128x224x224 ![0, 1, 2] bcast_S128x1x224_S128x224x224_0_1_2 (pixelCols o))⟩]
    concatenates_S128x224x224x1_S128x224x224x1_S128x224x224x1_S128x224x224x3_d3

/-- What the window gather is handed: a channel, and row and column 2. -/
def windowWords (c : IVec S32x4 32) : IVec S128x3 32 :=
  concatenate S128x3 1
    [⟨S128x1, broadcastInDim S128x1 ![0] bcast_S128_S128x1_0
        (select (cmpi .slt (flatChannels c) (broadcastInDim S128 ![] bcast_S_S128 (constantI S_ 32 0#32)))
          (addi (flatChannels c) (broadcastInDim S128 ![] bcast_S_S128 (constantI S_ 32 64#32))) (flatChannels c))⟩,
      ⟨S128x1, broadcastInDim S128x1 ![] bcast_S_S128x1 (constantI S_ 32 2#32)⟩,
      ⟨S128x1, broadcastInDim S128x1 ![] bcast_S_S128x1 (constantI S_ 32 2#32)⟩]
    concatenates_S128x1_S128x1_S128x1_S128x3_d1

/-- The image inside two rows and columns of zeros. -/
def padded (a : FVec Ideal S8x64x224x224 .f32) : FVec Ideal S8x64x228x228 .f32 :=
  pad S8x64x228x228 ![0, 0, 2, 2] ![0, 0, 2, 2] ![0, 0, 0, 0] a (sitofp .f32 (constantI S_ 32 0#32))
    pads_S8x64x224x224_S8x64x228x228_000_000_220_220 h_S_

/-- Each sampled pixel less its centre. -/
def excess (a : FVec Ideal S8x64x224x224 .f32) (o : IVec S32x4x2 32) (c : IVec S32x4 32) : FVec Ideal S8x128x224x224 .f32 :=
  subf (Host.gather pixels (padded a) (pixelWords o c)) (Host.gather windows (padded a) (windowWords c))

/-- The reference's result in those terms. -/
theorem result_eq (m : (ℓ : Loc nD τ sig) → Buf (Elt Ideal) ℓ) (d : Dev nD) :
    res_main_v73 m d = Host.reduceAdd
      (mulf (broadcastInDim S8x32x4x224x224 ![0, 1, 2, 3, 4] bcast_S1x1x4x1x1_S8x32x4x224x224_0_1_2_3_4
          (shapeCast S1x1x4x1x1 (Host.powf (broadcastInDim S4 ![] bcast_S_S4 (constant S_ .f32 0x40000000#32))
            (sitofp .f32 (iotaInDim S4 32 0))) shapeCasts_S4_S1x1x4x1x1))
        (Host.divf (broadcastInDim S8x32x4x224x224 ![] bcast_S_S8x32x4x224x224 (constant S_ .f32 0x3F800000#32))
          (addf (broadcastInDim S8x32x4x224x224 ![] bcast_S_S8x32x4x224x224 (constant S_ .f32 0x3F800000#32))
            (Host.exp (Host.negf (Host.divf
              (shapeCast S8x32x4x224x224 (excess (m ((d.tc : Thread nD τ).loc main_arg0)) (m ((d.tc : Thread nD τ).loc main_arg1))
                (m ((d.tc : Thread nD τ).loc main_arg2))) shapeCasts_S8x128x224x224_S8x32x4x224x224)
              (broadcastInDim S8x32x4x224x224 ![] bcast_S_S8x32x4x224x224
                (Host.divf (constant S_ .f32 0x3F800000#32) (constant S_ .f32 0x41200000#32)))))))))
      (constant S_ .f32 0x00000000#32) reducesTo_S8x32x4x224x224_S8x32x224x224_d2 h_S_ := rfl

section At
variable (a : FVec Ideal S8x64x224x224 .f32) (o : IVec S32x4x2 32) (c : IVec S32x4 32)
  (f : Fin 32) (p : Fin 4) (h w : Fin 224)

theorem pixelWords_channel : pixelWords o c (ix4 ⟨f.val * 4 + p.val, by omega⟩ h w 0) = wrap 64#32 (c (ix2 f p)) := by
  pointwise [pixelWords, pixelChannels]

theorem pixelWords_row : pixelWords o c (ix4 ⟨f.val * 4 + p.val, by omega⟩ h w 1)
    = wrap 228#32 (IntOp.addi (o (ix3 f p 0)) (BitVec.ofNat 32 h.val)) := by
  pointwise [pixelWords, pixelRows]

theorem pixelWords_col : pixelWords o c (ix4 ⟨f.val * 4 + p.val, by omega⟩ h w 2)
    = wrap 228#32 (IntOp.addi (o (ix3 f p 1)) (BitVec.ofNat 32 w.val)) := by
  pointwise [pixelWords, pixelCols]

theorem windowWords_at (k : Fin 3) : windowWords c (ix2 ⟨f.val * 4 + p.val, by omega⟩ k)
    = (![wrap 64#32 (c (ix2 f p)), 2#32, 2#32] : Fin 3 → BitVec 32) k := by
  pointwise [windowWords]
  match k with
  | ⟨0, _⟩ => rfl
  | ⟨1, _⟩ => rfl
  | ⟨2, _⟩ => rfl

/-- The padded image at a sampled pixel is the shifted image, -/
theorem padded_shifted (n : Fin 8) (k : Fin 64) (i j : Nat) (hi : i < 5) (hj : j < 5) :
    padded a (ix4 n k ⟨i + h.val, by omega⟩ ⟨j + w.val, by omega⟩) = shifted (fun r s => a (ix4 n k r s)) i j h w := by
  have z : (((0#32 : BitVec 32).toInt : ℝ) : EReal) = 0 := by simp
  pointwise [padded]
  by_cases q : (2 ≤ h.val + i ∧ h.val + i < 226) ∧ (2 ≤ w.val + j ∧ w.val + j < 226)
  · refine (dif_pos (by omega)).trans (Eq.trans ?_ (shifted_inside _ i j h w q.1 q.2).symm)
    exact congrArg₂ (fun r s => a (ix4 n k r s)) (Fin.ext (by simp only; omega)) (Fin.ext (by simp only; omega))
  · refine (dif_neg (by omega)).trans (Eq.trans ?_ (shifted_outside _ i j h w q).symm)
    exact z

/-- and two in from its corner the image itself. -/
theorem padded_centre (n : Fin 8) (k : Fin 64) :
    padded a (ix4 n k ⟨2 + h.val, by omega⟩ ⟨2 + w.val, by omega⟩) = a (ix4 n k h w) :=
  (padded_shifted a h w n k 2 2 (by decide) (by decide)).trans
    (shifted_inside _ 2 2 h w ⟨by omega, by omega⟩ ⟨by omega, by omega⟩)

/-- The excess at a pattern's point. -/
theorem excess_at (n : Fin 8) (hc : (c (ix2 f p)).toNat < 64) (hy : (o (ix3 f p 0)).toNat < 5) (hx : (o (ix3 f p 1)).toNat < 5) :
    excess a o c (ix4 n ⟨f.val * 4 + p.val, by omega⟩ h w)
      = shifted (fun r s => a (ix4 n ⟨(c (ix2 f p)).toNat, hc⟩ r s)) (o (ix3 f p 0)).toNat (o (ix3 f p 1)).toNat h w
        - a (ix4 n ⟨(c (ix2 f p)).toNat, hc⟩ h w) := by
  have add : ∀ (x : BitVec 32) (k : Nat), x.toNat < 5 → k < 224 →
      (wrap 228#32 (IntOp.addi x (BitVec.ofNat 32 k))).toInt.toNat = x.toNat + k := by
    intro x k h5 h224
    have e : (IntOp.addi x (BitVec.ofNat 32 k)).toNat = x.toNat + k := by
      show (x + BitVec.ofNat 32 k).toNat = _
      rw [BitVec.toNat_add, BitVec.toNat_ofNat]; omega
    rw [wrap_small _ _ (by omega), e]
  have e1 := gather_pixel (padded a) (pixelWords o c) n ⟨f.val * 4 + p.val, by omega⟩ h w ⟨_, hc⟩
    ⟨(o (ix3 f p 0)).toNat + h.val, by omega⟩ ⟨(o (ix3 f p 1)).toNat + w.val, by omega⟩
    (by rw [pixelWords_channel, wrap_small _ _ (by omega)]) (by rw [pixelWords_row]; exact add _ _ hy h.isLt)
    (by rw [pixelWords_col]; exact add _ _ hx w.isLt)
  have e2 := gather_window (padded a) (windowWords c) n ⟨f.val * 4 + p.val, by omega⟩ h w ⟨_, hc⟩
    (by rw [windowWords_at]; exact wrap_small _ _ (by omega)) (by rw [windowWords_at]; rfl) (by rw [windowWords_at]; rfl)
  rw [padded_shifted a h w n _ _ _ hy hx] at e1
  rw [padded_centre] at e2
  exact congrArg₂ (· - ·) e1 e2
end At

/-! ## The scalars -/

/-- Dividing by one tenth is multiplying by ten, for any dividend. -/
theorem div_tenth (x : EReal) : Ideal.div x (Ideal.div 1 (Ideal.ofBits .f32 0x41200000#32)) = x * 10 := by
  have e : Ideal.div 1 (Ideal.ofBits .f32 0x41200000#32) = ((1 / 10 : ℝ) : EReal) := by
    rw [ten, show (10 : EReal) = ((10 : ℝ) : EReal) by norm_cast, Ideal.div_coe (by norm_num), one_mul]
  rw [e, Ideal.div_coe (by norm_num), show (1 / (1 / 10) : ℝ) = 10 by norm_num]
  rfl

/-- The weights: the powers of two. -/
theorem weight (p : Fin 4) : Ideal.pow (Ideal.ofBits .f32 0x40000000#32) (FloatOps.sitofp (F := Ideal) .f32 (BitVec.ofNat 32 p.val))
    = ((2 ^ p.val : ℝ) : EReal) := by
  have e : (FloatOps.sitofp (F := Ideal) .f32 (BitVec.ofNat 32 p.val) : EReal) = ((p.val : ℝ) : EReal) := by
    show (((BitVec.ofNat 32 p.val).toInt : ℝ) : EReal) = _
    rw [WordCmp.toInt_eq_toNat_of_lt_half (by rw [BitVec.toNat_ofNat]; omega), BitVec.toNat_ofNat, Nat.mod_eq_of_lt (by omega)]
    simp
  rw [e, two, show (2 : EReal) = ((2 : ℝ) : EReal) by norm_cast, Ideal.pow_coe_coe]
  exact congrArg _ (Real.rpow_natCast 2 p.val)

/-- THE REFERENCE'S RESULT AT AN ELEMENT. -/
theorem result_at (m : (ℓ : Loc nD τ sig) → Buf (Elt Ideal) ℓ) (d : Dev nD) (a : FVec Ideal S8x64x224x224 .f32) (o : IVec S32x4x2 32)
    (c : IVec S32x4 32) (ha : m ((d.tc : Thread nD τ).loc main_arg0) = a) (ho : m ((d.tc : Thread nD τ).loc main_arg1) = o)
    (hc : m ((d.tc : Thread nD τ).loc main_arg2) = c) (bo : ∀ f p k, (o (ix3 f p k)).toNat < 5) (bc : ∀ f p, (c (ix2 f p)).toNat < 64)
    (n : Fin 8) (f : Fin 32) (h w : Fin 224) :
    (res_main_v73 m d : FVec Ideal S8x32x224x224 .f32) (ix4 n f h w)
      = (∑ p : Fin 4, ((2 ^ p.val : ℝ) : EReal)
          * bit (fun r s => a (ix4 n ⟨(c (ix2 f p)).toNat, bc f p⟩ r s)) (o (ix3 f p 0)).toNat (o (ix3 f p 1)).toNat h w : EReal) := by
  rw [result_eq, ha, ho, hc]
  pointwise
  refine Finset.sum_congr (M := EReal) rfl fun p _ => ?_
  rw [excess_at a o c f p h w n (bc f p) (bo f p 0) (bo f p 1), div_tenth, weight]
  rfl

end Cert.ReferenceIdeal.Lbp
-- ==== Proof.Equation.lean ====
/- The value claim: over the extended reals, and where every offset and channel is in range, the kernel and the reference leave
   the same array. -/
module

public import proofs.«01_k».proof.Defs
public import proofs.«01_k».proof.Proof.Value
public import proofs.«01_k».proof.Proof.Host

@[expose] public section

set_option maxRecDepth 16384

noncomputable section

open Idealize.ShloMosaic Idealize.ShloMosaic.TcCoe Idealize.SL.Sem

namespace Cert.Lbp
open Cert.KernelIdeal.Lbp

/-- A weighted sum of four terms, written out. -/
theorem weighted (b : Fin 4 → EReal) :
    ∑ p : Fin 4, ((2 ^ p.val : ℝ) : EReal) * b p = ((b 0 + 2 * b 1) + 4 * b 2) + 8 * b 3 := by
  rw [Fin.sum_univ_four]
  have e0 : ((2 ^ (0 : Fin 4).val : ℝ) : EReal) = 1 := by norm_num
  have e1 : ((2 ^ (1 : Fin 4).val : ℝ) : EReal) = 2 := by norm_num; rfl
  have e2 : ((2 ^ (2 : Fin 4).val : ℝ) : EReal) = 4 := by norm_num; rfl
  have e3 : ((2 ^ (3 : Fin 4).val : ℝ) : EReal) = 8 := by norm_num; rfl
  rw [e0, e1, e2, e3, one_mul]

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (ho : ∀ f p k, (offsets m 0 (ix3 f p k)).toNat < 5) (hc : ∀ f p, (channels m 0 (ix2 f p)).toNat < 64)

include ho in
/-- The reference's array is the kernel's. -/
theorem reference_codes (c : Dev KernelIdeal.nD)
    (h0 : m' ((c.tc : Thread ReferenceIdeal.nD ReferenceIdeal.τ).loc ReferenceIdeal.main_arg0) = input m c)
    (h1 : m' ((c.tc : Thread ReferenceIdeal.nD ReferenceIdeal.τ).loc ReferenceIdeal.main_arg1) = offsets m c)
    (h2 : m' ((c.tc : Thread ReferenceIdeal.nD ReferenceIdeal.τ).loc ReferenceIdeal.main_arg2) = channels m c) :
    ReferenceIdeal.Value.res_main_v73 m' c = codes m hc c := by
  obtain rfl : c = 0 := Subsingleton.elim _ _
  funext (j : KernelIdeal.S8x32x224x224.Idx)
  idx_vars j
  exact (ReferenceIdeal.Lbp.result_at m' 0 _ _ _ h0 h1 h2 ho hc j0 j1 j2 j3).trans (weighted fun p => bitOf m hc 0 j0 j1 p j2 j3)

theorem equal : Cert.algebraic_KernelIdeal_ReferenceIdeal := fun m g m' g' hp ha => by
  have ho := offset_lt _ _ _ (hp 0).2.1
  have hc := channel_lt _ _ _ (hp 0).2.2
  refine ⟨codes m hc, ?_, ?_⟩
  · exact (θ_run _ _ _).mono (fun _ r c => ⟨(r.1 c).1.trans (final m (fits m hc) ho hc c), (r.1 c).2⟩) (result m g (fits m hc))
  · exact (θ_run _ _ _).mono
      (fun _ r c => ⟨(r c).1.trans (reference_codes m m' ho hc c (ha c).1 (ha c).2.1 (ha c).2.2), (r c).2⟩)
      (ReferenceIdeal.Value.run m' g')

/-- The reference's frame. -/
theorem frame_reference : Cert.quiescent_ReferenceIdeal := fun m g _ =>
  (θ_run _ _ _).mono (fun r h => ⟨fun c => (h c).2, sem_eq_zero_of_no_sems (by decide) r.2⟩) (ReferenceIdeal.Value.run m g)

end Cert.Lbp
-- ==== Proof.lean ====
/- The claims together: the kernel's and the reference's frames, and their equality over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_indices_in_range
public import proofs.«01_k».proof.Proof.Frames
public import proofs.«01_k».proof.Proof.Equation
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_indices_in_range.Gen.facts,
    Cert.KernelIdeal.Lbp.frame_kernel, Cert.KernelIdeal.Lbp.frame_idealized, Cert.Lbp.frame_reference,
    fun m g _ => Cert.Lbp.frame_reference m g trivial, trivial, Cert.Lbp.equal⟩

end Cert.Proof

end
